-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_tokens_in_table [hPre_tokens_in_table : Cert.Pre_tokens_in_table.Facts] (m : (ℓ : Loc Cert.KernelIdeal.nD Cert.KernelIdeal.τ Cert.KernelIdeal.sig) → Buf (Elt Ideal) ℓ) : Prop :=
  ∀ c : Dev Cert.KernelIdeal.nD,
    (Cert.Pre_tokens_in_table.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_tokens_in_table [hPre_tokens_in_table : Cert.Pre_tokens_in_table.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_tokens_in_table.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_tokens_in_table [hKernelIdeal : Cert.KernelIdeal.Facts] [hPre_tokens_in_table : Cert.Pre_tokens_in_table.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_tokens_in_table m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_tokens_in_table [hReferenceIdeal : Cert.ReferenceIdeal.Facts] [hPre_tokens_in_table : Cert.Pre_tokens_in_table.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_tokens_in_table m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_tokens_in_table [hKernelIdeal : Cert.KernelIdeal.Facts] [hReferenceIdeal : Cert.ReferenceIdeal.Facts] [hPre_tokens_in_table : Cert.Pre_tokens_in_table.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_tokens_in_table m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_tokens_in_table : Cert.Pre_tokens_in_table.Facts),
    quiescent_Kernel (hKernel := hKernel)
    ∧ quiescent_KernelIdeal (hKernelIdeal := hKernelIdeal)
    ∧ quiescent_KernelIdeal_pre_tokens_in_table (hKernelIdeal := hKernelIdeal) (hPre_tokens_in_table := hPre_tokens_in_table)
    ∧ quiescent_ReferenceIdeal (hReferenceIdeal := hReferenceIdeal)
    ∧ quiescent_ReferenceIdeal_pre_tokens_in_table (hReferenceIdeal := hReferenceIdeal) (hPre_tokens_in_table := hPre_tokens_in_table)
    ∧ preserves_Kernel_KernelIdeal
    ∧ algebraic_KernelIdeal_ReferenceIdeal_pre_tokens_in_table (hKernelIdeal := hKernelIdeal) (hReferenceIdeal := hReferenceIdeal) (hPre_tokens_in_table := hPre_tokens_in_table)
-- ==== Pre_tokens_in_table.lean ====
abbrev S4096x200 : Shape := ⟨2, ![4096, 200]⟩
abbrev S22x8 : Shape := ⟨2, ![22, 8]⟩
abbrev S64x8 : Shape := ⟨2, ![64, 8]⟩
abbrev S64 : Shape := ⟨1, ![64]⟩
abbrev S_ : Shape := ⟨0, ![]⟩

class Facts : Prop where
  bcast_S_S4096x200 : S_.BroadcastsInDim S4096x200 (![] : Fin 0 → Fin S4096x200.rank)

variable [Facts]

def fn {F : FTy → Type} [FloatOps F] (main_arg0 : IVec S4096x200 32) (main_arg1 : FVec F S22x8 .f32) (main_arg2 : FVec F S64x8 .f32) (main_arg3 : FVec F S64 .f32) : IVec S4096x200 1 :=
  let main_c : IVec S_ 32 := constantI S_ 32 0#32
  let main_v0 : IVec S4096x200 32 := broadcastInDim S4096x200 ![] bcast_S_S4096x200 main_c
  let main_v1 : IVec S4096x200 1 := cmpi .sge main_arg0 main_v0
  let main_c_0 : IVec S_ 32 := constantI S_ 32 22#32
  let main_v2 : IVec S4096x200 32 := broadcastInDim S4096x200 ![] bcast_S_S4096x200 main_c_0
  let main_v3 : IVec S4096x200 1 := cmpi .slt main_arg0 main_v2
  let main_v4 : IVec S4096x200 1 := andi main_v1 main_v3
  main_v4
-- ==== Kernel.lean ====
abbrev S4096x200 : Shape := ⟨2, ![4096, 200]⟩
abbrev S22x8 : Shape := ⟨2, ![22, 8]⟩
abbrev S64x8 : Shape := ⟨2, ![64, 8]⟩
abbrev S64 : Shape := ⟨1, ![64]⟩
abbrev S_ : Shape := ⟨0, ![]⟩
abbrev S32x8 : Shape := ⟨2, ![32, 8]⟩
abbrev S1 : Shape := ⟨1, ![1]⟩
abbrev S8x64 : Shape := ⟨2, ![8, 64]⟩
abbrev S1x64 : Shape := ⟨2, ![1, 64]⟩
abbrev S6400x128 : Shape := ⟨2, ![6400, 128]⟩
abbrev S6400x128x64 : Shape := ⟨3, ![6400, 128, 64]⟩
abbrev S256x128 : Shape := ⟨2, ![256, 128]⟩
abbrev S256x128x64 : Shape := ⟨3, ![256, 128, 64]⟩
abbrev S128x256 : Shape := ⟨2, ![128, 256]⟩
abbrev S32x64 : Shape := ⟨2, ![32, 64]⟩
abbrev S1x32 : Shape := ⟨2, ![1, 32]⟩
abbrev S128x1 : Shape := ⟨2, ![128, 1]⟩
abbrev S128x32 : Shape := ⟨2, ![128, 32]⟩
abbrev S128x64 : Shape := ⟨2, ![128, 64]⟩
abbrev S1x128x64 : Shape := ⟨3, ![1, 128, 64]⟩
abbrev S4096x200x64 : Shape := ⟨3, ![4096, 200, 64]⟩

abbrev nBuf : Space → Nat
  | .hbm => 14
  | .vmem => 8
  | .smem => 0
  | _ => 0

abbrev bufTy : (tb : Table) → Fin (tcTables nBuf tb) → BufTy
  | .hbm, ⟨0, _⟩ => ⟨S4096x200, .i32⟩
  | .hbm, ⟨1, _⟩ => ⟨S22x8, .f32⟩
  | .hbm, ⟨2, _⟩ => ⟨S64x8, .f32⟩
  | .hbm, ⟨3, _⟩ => ⟨S64, .f32⟩
  | .hbm, ⟨4, _⟩ => ⟨S_, .f32⟩
  | .hbm, ⟨5, _⟩ => ⟨S32x8, .f32⟩
  | .hbm, ⟨6, _⟩ => ⟨S_, .i32⟩
  | .hbm, ⟨7, _⟩ => ⟨S1, .i32⟩
  | .hbm, ⟨8, _⟩ => ⟨S32x8, .f32⟩
  | .hbm, ⟨9, _⟩ => ⟨S8x64, .f32⟩
  | .hbm, ⟨10, _⟩ => ⟨S1x64, .f32⟩
  | .hbm, ⟨11, _⟩ => ⟨S6400x128, .i32⟩
  | .hbm, ⟨12, _⟩ => ⟨S6400x128x64, .f32⟩
  | .hbm, ⟨13, _⟩ => ⟨S4096x200x64, .f32⟩
  | .local _ .vmem, ⟨0, _⟩ => ⟨S256x128, .i32⟩
  | .local _ .vmem, ⟨1, _⟩ => ⟨S256x128, .i32⟩
  | .local _ .vmem, ⟨2, _⟩ => ⟨S32x8, .f32⟩
  | .local _ .vmem, ⟨3, _⟩ => ⟨S8x64, .f32⟩
  | .local _ .vmem, ⟨4, _⟩ => ⟨S1x64, .f32⟩
  | .local _ .vmem, ⟨5, _⟩ => ⟨S256x128x64, .f32⟩
  | .local _ .vmem, ⟨6, _⟩ => ⟨S256x128x64, .f32⟩
  | .local _ .vmem, ⟨7, _⟩ => ⟨S128x256, .i32⟩
  | _, _ => ⟨S4096x200, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x128 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x128x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S4096x200 : Shape := ⟨2, ![4096, 200]⟩
abbrev S22x8 : Shape := ⟨2, ![22, 8]⟩
abbrev S64x8 : Shape := ⟨2, ![64, 8]⟩
abbrev S64 : Shape := ⟨1, ![64]⟩
abbrev S_ : Shape := ⟨0, ![]⟩
abbrev S4096x200x1 : Shape := ⟨3, ![4096, 200, 1]⟩
abbrev S1 : Shape := ⟨1, ![1]⟩
abbrev S1x1x1 : Shape := ⟨3, ![1, 1, 1]⟩
abbrev S4096x200x8 : Shape := ⟨3, ![4096, 200, 8]⟩
abbrev S4096x200x64 : Shape := ⟨3, ![4096, 200, 64]⟩
abbrev S1x1x64 : Shape := ⟨3, ![1, 1, 64]⟩

abbrev nBuf : Space → Nat
  | .hbm => 31
  | .vmem => 0
  | .smem => 0
  | _ => 0

abbrev bufTy : (tb : Table) → Fin (tcTables nBuf tb) → BufTy
  | .hbm, ⟨0, _⟩ => ⟨S4096x200, .i32⟩
  | .hbm, ⟨1, _⟩ => ⟨S22x8, .f32⟩
  | .hbm, ⟨2, _⟩ => ⟨S64x8, .f32⟩
  | .hbm, ⟨3, _⟩ => ⟨S64, .f32⟩
  | .hbm, ⟨4, _⟩ => ⟨S_, .i32⟩
  | .hbm, ⟨5, _⟩ => ⟨S4096x200, .i32⟩
  | .hbm, ⟨6, _⟩ => ⟨S4096x200, .i1⟩
  | .hbm, ⟨7, _⟩ => ⟨S_, .i32⟩
  | .hbm, ⟨8, _⟩ => ⟨S4096x200, .i32⟩
  | .hbm, ⟨9, _⟩ => ⟨S4096x200, .i32⟩
  | .hbm, ⟨10, _⟩ => ⟨S4096x200, .i32⟩
  | .hbm, ⟨11, _⟩ => ⟨S4096x200x1, .i32⟩
  | .hbm, ⟨12, _⟩ => ⟨S1, .i32⟩
  | .hbm, ⟨13, _⟩ => ⟨S_, .i32⟩
  | .hbm, ⟨14, _⟩ => ⟨S4096x200x1, .i32⟩
  | .hbm, ⟨15, _⟩ => ⟨S4096x200x1, .i1⟩
  | .hbm, ⟨16, _⟩ => ⟨S1x1x1, .i32⟩
  | .hbm, ⟨17, _⟩ => ⟨S4096x200x1, .i32⟩
  | .hbm, ⟨18, _⟩ => ⟨S4096x200x1, .i1⟩
  | .hbm, ⟨19, _⟩ => ⟨S4096x200x1, .i1⟩
  | .hbm, ⟨20, _⟩ => ⟨S_, .i1⟩
  | .hbm, ⟨21, _⟩ => ⟨S4096x200, .i1⟩
  | .hbm, ⟨22, _⟩ => ⟨S4096x200x8, .f32⟩
  | .hbm, ⟨23, _⟩ => ⟨S4096x200x8, .i1⟩
  | .hbm, ⟨24, _⟩ => ⟨S_, .f32⟩
  | .hbm, ⟨25, _⟩ => ⟨S4096x200x8, .f32⟩
  | .hbm, ⟨26, _⟩ => ⟨S4096x200x8, .f32⟩
  | .hbm, ⟨27, _⟩ => ⟨S4096x200x64, .f32⟩
  | .hbm, ⟨28, _⟩ => ⟨S1x1x64, .f32⟩
  | .hbm, ⟨29, _⟩ => ⟨S4096x200x64, .f32⟩
  | .hbm, ⟨30, _⟩ => ⟨S4096x200x64, .f32⟩
  | _, _ => ⟨S4096x200, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_c : Ref sig .tc := ⟨.hbm, 4, rfl⟩
abbrev main_call0_v0 : Ref sig .tc := ⟨.hbm, 5, rfl⟩
abbrev main_call0_v1 : Ref sig .tc := ⟨.hbm, 6, rfl⟩
abbrev main_call0_c_0 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_c_1 : Ref sig .tc := ⟨.hbm, 12, rfl⟩
abbrev main_call0_c_2 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_3 : Ref sig .tc := ⟨.hbm, 20, rfl⟩
abbrev main_call0_v12 : Ref sig .tc := ⟨.hbm, 21, rfl⟩
abbrev main_call0_v13 : Ref sig .tc := ⟨.hbm, 22, rfl⟩
abbrev main_call0_v14 : Ref sig .tc := ⟨.hbm, 23, rfl⟩
abbrev main_call0_cst : Ref sig .tc := ⟨.hbm, 24, rfl⟩
abbrev main_call0_v15 : Ref sig .tc := ⟨.hbm, 25, rfl⟩
abbrev main_v0 : Ref sig .tc := ⟨.hbm, 26, rfl⟩
abbrev main_v1 : Ref sig .tc := ⟨.hbm, 27, rfl⟩
abbrev main_v2 : Ref sig .tc := ⟨.hbm, 28, rfl⟩
abbrev main_v3 : Ref sig .tc := ⟨.hbm, 29, rfl⟩
abbrev main_v4 : Ref sig .tc := ⟨.hbm, 30, rfl⟩

abbrev nD : Nat := 1
abbrev τ : Topo := Topo.v7x

variable {F : FTy → Type} [FloatOps F]
-- ==== Proof.Block.lean ====
/-
  WHAT ONE GRID POINT COMPUTES. The body leaves 256 tiles in its output block, tile `r` the product of a one-hot matrix
  with the table of outputs: row `l` of that matrix is one at the token of lane `l`, and row `t` of the table of outputs
  is row `t` of the padded table times the weights, plus the bias. Read at an index, the block's element `(r, l, h)` is
  that table's element at (the token of `(r, l)`, `h`).
-/
module

public import proofs.«01_k».proof.Proof.Gen.KernelIdeal.Frame
public import Idealize.ShloMosaic.Lib.Pipeline.ValueKit
public import Idealize.ShloMosaic.Lib.Pointwise

@[expose] public section

set_option maxRecDepth 16384

noncomputable section

namespace Cert.KernelIdeal.Emb

open Cert.KernelIdeal Cert.KernelIdeal.Gen Idealize.ShloMosaic Idealize.ShloMosaic.TcCoe Idealize.SL.Sem
open Idealize.ShloMosaic.Pointwise

variable {F : FTy → Type} [FloatOps F]

/-! ## The tiles, all of one form -/

/-- Tile `r` lies in the output block. -/
theorem row_inb (r : Fin 256) : ∀ a, (![r.val, 0, 0] : Fin 3 → Nat) a + S1x128x64.size a ≤ S256x128x64.size a
  | ⟨0, _⟩ => r.isLt
  | ⟨1, _⟩ => Nat.le_refl 128
  | ⟨2, _⟩ => Nat.le_refl 64

/-- Column `r` lies in the transposed block of tokens. -/
theorem col_inb (r : Fin 256) : ∀ a, (![0, r.val] : Fin 2 → Nat) a + S128x1.size a ≤ S128x256.size a
  | ⟨0, _⟩ => Nat.le_refl 128
  | ⟨1, _⟩ => r.isLt

/-- The one-hot matrix of a column of tokens: row `l` is one at column `v l`, zero elsewhere. -/
def hot (v : IVec S128x1 32) : FVec F S128x32 .f32 :=
  sitofp .f32 (extui 32 (cmpi .eq (broadcastTo S128x32 v broadcasts_S128x1_S128x32)
    (broadcastTo S128x32 (iota .tc S1x32 32 [1] iota_S1x32_d1_w32) broadcasts_S1x32_S128x32)) natLt_1_32)

/-- One tile: the one-hot matrix of the column `v` times the table of outputs `f`. -/
def tile (f : FVec F S32x64 .f32) (v : IVec S128x1 32) : FVec F S1x128x64 .f32 :=
  shapeCast S1x128x64 (matmul dot_S128x32_S32x64_S128x64_1_0_0_1_n_n none (hot v) f
    (constant S128x64 .f32 0x00000000#32)) shapeCasts_S128x64_S1x128x64

section Pieces

variable (c : Dev nD) (i : grid0.Coords) (arg1 : Memref sig .tc .vmem S256x128 .i32) (harg1 : arg1.IsWhole)
  (arg2 : Memref sig .tc .vmem S32x8 .f32) (harg2 : arg2.IsWhole) (arg3 : Memref sig .tc .vmem S8x64 .f32) (harg3 : arg3.IsWhole)
  (arg4 : Memref sig .tc .vmem S1x64 .f32) (harg4 : arg4.IsWhole) (arg5 : Memref sig .tc .vmem S256x128x64 .f32) (harg5 : arg5.IsWhole)
  (arg6 : Memref sig .tc .vmem S128x256 .i32) (harg6 : arg6.IsWhole)

/-- The 256 stores of the body, last first: store `r` puts into tile `r` the one-hot matrix of column `r` of the
    transposed block of tokens, times one and the same table of outputs. -/
theorem pieces_eq (x0 : Vec F S256x128 .i32) (x1 : Vec F S32x8 .f32) (x2 : Vec F S8x64 .f32) (x3 : Vec F S1x64 .f32) :
    (kernelRun0_A c i arg1 harg1 arg2 harg2 arg3 harg3 arg4 harg4 arg5 harg5 arg6 harg6 x0 x1 x2 x3).1
      = List.ofFn fun k : Fin 256 =>
        (⟨Rect.unit (s := S256x128x64) ![k.rev.val, 0, 0] S1x128x64.size (row_inb k.rev),
          tile (kernelRun0_A.sl.r c arg2 harg2 arg3 harg3 arg4 harg4 x1 x2 x3)
            (arg6.view.readCov (kernelRun0_A.sl.HS0_1 c arg1 harg1 x0)
              (Rect.unit (s := S128x256) ![0, k.rev.val] S128x1.size (col_inb k.rev)).toLoadRect)⟩ : View.Piece (Elt F) S256x128x64 .f32) := by
  sl_kernel_rfl

/-- The table of outputs is computed from the three blocks themselves. -/
theorem table_eq (x1 : Vec F S32x8 .f32) (x2 : Vec F S8x64 .f32) (x3 : Vec F S1x64 .f32) :
    kernelRun0_A.sl.r c arg2 harg2 arg3 harg3 arg4 harg4 x1 x2 x3 = k0_pay1 x1 x2 x3 := by
  have whole (a : Fin 2) : (![0, 0] : Fin 2 → Nat) a = 0 := by fin_cases a <;> rfl
  unfold kernelRun0_A.sl.r
  rw [View.readAt_eq_ld, View.readAt_eq_ld, View.readAt_eq_ld, harg2.read_unread, harg3.read_unread, harg4.read_unread,
    View.ld_unit_lit _ _ whole, View.ld_unit_lit _ _ whole, View.ld_unit_lit _ _ whole]

/-- Column `r` of the transposed block of tokens is row `r` of the block. -/
theorem column_apply (x0 : Vec F S256x128 .i32) (r : Fin 256) (l : Fin 128) :
    arg6.view.readCov (kernelRun0_A.sl.HS0_1 c arg1 harg1 x0)
      (Rect.unit (s := S128x256) ![0, r.val] S128x1.size (col_inb r)).toLoadRect (ix2 l 0) = x0 (ix2 r l) := by
  have whole (a : Fin 2) : (![0, 0] : Fin 2 → Nat) a = 0 := by fin_cases a <;> rfl
  rw [View.readCov_eq_canon']
  unfold kernelRun0_A.sl.HS0_1
  rw [View.canon_cons_unit_lit _ _ _ whole, View.readAt_eq_ld, harg1.read_unread, View.ld_unit_lit _ _ whole]
  have hi : (Rect.unit (s := S128x256) ![0, r.val] S128x1.size (col_inb r)).toLoadRect.idx (ix2 l 0) = ix2 l r := by
    funext a
    refine Fin.ext ?_
    match a with
    | ⟨0, _⟩ => show 0 + 1 * l.val = l.val; omega
    | ⟨1, _⟩ => show r.val + 1 * 0 = r.val; omega
  refine (congrArg (k0_pay2 x0) hi).trans ?_
  pointwise [k0_pay2]

end Pieces

/-! ## Read at an index, over the extended reals -/

/-- A comparison's bit, widened and converted to a number: one where the two words are equal, zero where not. -/
theorem hot_word (a b : BitVec 32) :
    (FloatOps.sitofp FTy.f32 (BitVec.setWidth 32 (IntOp.cmpi CmpIPredicate.eq a b)) : Ideal .f32)
      = if a = b then (1 : EReal) else 0 := by
  show (((BitVec.setWidth 32 (BitVec.ofBool (a == b))).toInt : ℝ) : EReal) = _
  by_cases e : a = b
  · rw [if_pos e, beq_iff_eq.mpr e]
    rw [show (BitVec.setWidth 32 (BitVec.ofBool true)).toInt = 1 by decide, Int.cast_one, EReal.coe_one]
  · rw [if_neg e, beq_eq_false_iff_ne.mpr e]
    rw [show (BitVec.setWidth 32 (BitVec.ofBool false)).toInt = 0 by decide, Int.cast_zero, EReal.coe_zero]

/-- Element `(l, h)` of a tile: the table of outputs at row `t`, column `h`, where the token of lane `l` is `t`. -/
theorem tile_apply (f : FVec Ideal S32x64 .f32) (v : IVec S128x1 32) (l : Fin 128) (h : Fin 64) (t : Fin 32)
    (hv : v (ix2 l 0) = BitVec.ofNat 32 t) : tile f v (ix3 0 l h) = f (ix2 t h) := by
  pointwise [tile, hot]
  simp only [hot_word, hv]
  rw [Finset.sum_eq_single t]
  · rw [if_pos rfl, one_mul]
  · intro s _ hs
    rw [if_neg, zero_mul]
    intro e
    have := congrArg BitVec.toNat e
    rw [BitVec.toNat_ofNat, BitVec.toNat_ofNat, Nat.mod_eq_of_lt (by omega), Nat.mod_eq_of_lt (by omega)] at this
    exact hs (Fin.ext this.symm)
  · intro ht
    exact absurd (Finset.mem_univ t) ht

/-- Element `(t, h)` of the table of outputs: row `t` of the table times column `h` of the weights, plus the bias. -/
theorem outputs_apply (v0 : Vec Ideal S32x8 .f32) (v2 : Vec Ideal S8x64 .f32) (v5 : Vec Ideal S1x64 .f32) (t : Fin 32) (h : Fin 64) :
    k0_pay1 v0 v2 v5 (ix2 t h) = (∑ d : Fin 8, v0 (ix2 t d) * v2 (ix2 d h)) + v5 (ix2 0 h) := by
  pointwise [k0_pay1]

/-- THE BLOCK a grid point leaves, at `(r, l, h)`, where the token of `(r, l)` is `t`: row `t` of the table of outputs. -/
theorem out_apply (c : Dev nD) (i : grid0.Coords) (arg1 : Memref sig .tc .vmem S256x128 .i32) (harg1 : arg1.IsWhole)
    (arg2 : Memref sig .tc .vmem S32x8 .f32) (harg2 : arg2.IsWhole) (arg3 : Memref sig .tc .vmem S8x64 .f32) (harg3 : arg3.IsWhole)
    (arg4 : Memref sig .tc .vmem S1x64 .f32) (harg4 : arg4.IsWhole) (arg5 : Memref sig .tc .vmem S256x128x64 .f32) (harg5 : arg5.IsWhole)
    (arg6 : Memref sig .tc .vmem S128x256 .i32) (harg6 : arg6.IsWhole)
    (x0 : Vec Ideal S256x128 .i32) (x1 : Vec Ideal S32x8 .f32) (x2 : Vec Ideal S8x64 .f32) (x3 : Vec Ideal S1x64 .f32)
    (r : Fin 256) (l : Fin 128) (h : Fin 64) (t : Fin 32) (hx : x0 (ix2 r l) = BitVec.ofNat 32 t) :
    out0_A_4 c i arg1 harg1 arg2 harg2 arg3 harg3 arg4 harg4 arg5 harg5 arg6 harg6 x0 x1 x2 x3 (ix3 r l h)
      = (∑ d : Fin 8, x1 (ix2 t d) * x2 (ix2 d h)) + x3 (ix2 0 h) := by
  unfold out0_A_4
  rw [View.read_writes_junk_eq_canon, pieces_eq, ← outputs_apply]
  refine View.canon_ofFn_unit_eq_of_forall _ _ _ _ _ _ ⟨r.rev, fun a => ?_⟩ fun k x hk => ?_
  · match a with
    | ⟨0, _⟩ => show r.rev.rev.val ≤ r.val ∧ r.val < r.rev.rev.val + 1; rw [Fin.rev_rev]; omega
    | ⟨1, _⟩ => exact ⟨Nat.zero_le _, by show l.val < 0 + 128; omega⟩
    | ⟨2, _⟩ => exact ⟨Nat.zero_le _, by show h.val < 0 + 64; omega⟩
  · have h0 : r.val = k.rev.val + (x 0).val := hk 0
    have h1 : l.val = 0 + (x 1).val := hk 1
    have h2 : h.val = 0 + (x 2).val := hk 2
    have x0_lt : (x 0).val < 1 := (x 0).isLt
    have hx' : x = ix3 (0 : Fin 1) l h := by
      funext a
      refine Fin.ext ?_
      match a with
      | ⟨0, _⟩ => show (x 0).val = 0; omega
      | ⟨1, _⟩ => show (x 1).val = l.val; omega
      | ⟨2, _⟩ => show (x 2).val = h.val; omega
    have hr : k.rev = r := Fin.ext (by omega)
    rw [hx', table_eq, hr]
    exact tile_apply _ _ l h t ((column_apply c arg1 harg1 arg6 x0 r l).trans hx)

end Cert.KernelIdeal.Emb

end
-- ==== Proof.Array.lean ====
/-
  THE ARRAY THE KERNEL LEAVES. The lines before the region hand it the tokens as 6400 rows of 128, the table written over the
  first 22 rows of a zero array of 32, the weights transposed and the bias as one row. Each grid point writes its own 256
  rows of the result, so the whole array is, at `(p, q, h)`, the table's row of token `(p, q)` times row `h` of the weights,
  plus entry `h` of the bias.
-/
module

public import proofs.«01_k».proof.Proof.Block
public import Idealize.ShloMosaic.Lib.Routing.OpsSet
public import Idealize.ShloMosaic.Lib.Routing.OpsPair

@[expose] public section

set_option maxRecDepth 16384

noncomputable section

namespace Cert.KernelIdeal.Emb

open Cert.KernelIdeal Cert.KernelIdeal.Gen Idealize.ShloMosaic Idealize.ShloMosaic.TcCoe Idealize.SL.Sem
open Idealize.ShloMosaic.Pointwise
open Idealize.ShloMosaic.Pipeline (Dat)

variable (m : (ℓ : Loc nD τ sig) → Buf (Elt Ideal) ℓ) (c : Dev nD)

/-- The tokens: the first argument. -/
def src : IVec S4096x200 32 := m ((c.tc : Thread nD τ).loc main_arg0)
/-- The embedding table: the second argument. -/
def table : FVec Ideal S22x8 .f32 := m ((c.tc : Thread nD τ).loc main_arg1)
/-- The weights of the up-projection: the third argument. -/
def weights : FVec Ideal S64x8 .f32 := m ((c.tc : Thread nD τ).loc main_arg2)
/-- The bias of the up-projection: the fourth argument. -/
def bias : FVec Ideal S64 .f32 := m ((c.tc : Thread nD τ).loc main_arg3)

/-- The region's first array is the tokens, laid out as 6400 rows of 128. -/
theorem entry_src : (V m c main_v5 : IVec S6400x128 32) = shapeCast S6400x128 (src m c) shapeCasts_S4096x200_S6400x128 := by
  show StableHlo.after hostOps0 _ _ = _
  after_results
  rfl

/-- The region's fourth array is the bias, laid out as one row. -/
theorem entry_bias : (V m c main_v4 : FVec Ideal S1x64 .f32) = shapeCast S1x64 (bias m c) shapeCasts_S64_S1x64 := by
  show StableHlo.after hostOps0 _ _ = _
  after_results
  rfl

/-- The region's third array is the weights, transposed. -/
theorem entry_weights : (V m c main_v3 : FVec Ideal S8x64 .f32) = transpose S8x64 [1, 0] (weights m c) transposes_S64x8_S8x64_1_0 := by
  show StableHlo.after hostOps0 _ _ = _
  after_results
  rfl

/-- The region's second array is a zero array with the table written over it from row 0. -/
theorem entry_table : (V m c main_v2 : FVec Ideal S32x8 .f32) = Host.scatter scatter_S32x8_S1_S22x8_01_n_0_0 (fun _ b => b)
    (broadcastInDim S32x8 ![] bcast_S_S32x8 (constant (F := Ideal) S_ .f32 0x00000000#32))
    (broadcastInDim S1 ![] bcast_S_S1 (constantI S_ 32 0#32)) (table m c) := by
  show StableHlo.after hostOps0 _ _ = _
  after_results
  rfl

/-- An array of 22 rows written over one of 32 rows from row 0 leaves its own rows at the first 22. -/
theorem scatter_apply (x : FVec Ideal S32x8 .f32) (ix : IVec S1 32) (hix : ∀ j, ix j = 0#32) (u : FVec Ideal S22x8 .f32) (t : Fin 22) (d : Fin 8) :
    Host.scatter scatter_S32x8_S1_S22x8_01_n_0_0 (fun _ b => b) x ix u (ix2 (t.castLE (by decide)) d) = u (ix2 t d) := by
  have lands (k : S22x8.Idx) (i : S32x8.Idx) :
      scatter_S32x8_S1_S22x8_01_n_0_0.resultIdx? k ix = some i ↔ (k 0).val = (i 0).val ∧ (k 1).val = (i 1).val := by
    rw [Routing.resultIdx?_eq_some]
    have start (a : Fin 2) : scatter_S32x8_S1_S22x8_01_n_0_0.start k ix a = 0 := by
      unfold ScatterDims.start
      split
      · rw [hix]; rfl
      · rfl
    constructor
    · intro e
      have e0 := e 0
      have e1 := e 1
      rw [start] at e0 e1
      change (0 : Int) + ((k 0).val : Int) = _ at e0
      change (0 : Int) + ((k 1).val : Int) = _ at e1
      omega
    · rintro ⟨e0, e1⟩ a
      rw [start]
      match a with
      | ⟨0, _⟩ => show (0 : Int) + ((k 0).val : Int) = ((i 0).val : Int); omega
      | ⟨1, _⟩ => show (0 : Int) + ((k 1).val : Int) = ((i 1).val : Int); omega
  refine Routing.scatter_set_hit _ _ _ _ _ _ (fun k hk => ?_) (ix2 t d) ((lands _ _).mpr ⟨rfl, rfl⟩)
  obtain ⟨e0, e1⟩ := (lands _ _).mp hk
  congr 1
  funext a
  refine Fin.ext ?_
  match a with
  | ⟨0, _⟩ => exact e0
  | ⟨1, _⟩ => exact e1

/-- The table's row that a token names; a token past the table is given the last row. -/
def row (w : BitVec 32) : Fin 22 := ⟨min w.toNat 21, by omega⟩

/-- Entry `h` of a token's result: the token's table row times row `h` of the weights, plus entry `h` of the bias. -/
def outRow (w : BitVec 32) (h : Fin 64) : EReal :=
  (∑ d : Fin 8, table m c (ix2 (row w) d) * weights m c (ix2 h d)) + bias m c (ix1 h)

/-- The result laid out as the region writes it: entry `h` of the result of the token at row `p`, lane `q`. -/
def rows (i : S6400x128x64.Idx) : EReal :=
  outRow m c (shapeCast S6400x128 (src m c) shapeCasts_S4096x200_S6400x128 (ix2 (i 0) (i 1))) (i 2)

/-- Point `t` reads block `t` of the tokens and the whole of the other three arrays, and writes block `t` of the result. -/
theorem index_eq (t : Fin cfg0.N) : win0_0.index t = ![(grid0.coords t 0).val, 0] ∧ win0_1.index t = ![0, 0]
    ∧ win0_2.index t = ![0, 0] ∧ win0_3.index t = ![0, 0] ∧ win0_4.index t = ![(grid0.coords t 0).val, 0, 0] :=
  (by decide +kernel : ∀ t : Fin grid0.N, win0_0.index t = ![(grid0.coords t 0).val, 0] ∧ win0_1.index t = ![0, 0]
    ∧ win0_2.index t = ![0, 0] ∧ win0_3.index t = ![0, 0] ∧ win0_4.index t = ![(grid0.coords t 0).val, 0, 0]) t

/-- Row `r` of point `t`'s block of tokens is row `256 t + r` of the tokens. -/
theorem block_src (t : Fin cfg0.N) (r : Fin 256) (l : Fin 128) (hr : (grid0.coords t 0).val * 256 + r.val < 6400) :
    iblk m c 0 t (ix2 r l) = V m c main_v5 (ix2 ⟨(grid0.coords t 0).val * 256 + r.val, hr⟩ l) := by
  obtain ⟨i0, -⟩ := index_eq t
  blk_ext [iblk, V, i0]

/-- Every point's block of the padded table is the padded table. -/
theorem block_table (t : Fin cfg0.N) (r : Fin 32) (d : Fin 8) : iblk m c 1 t (ix2 r d) = V m c main_v2 (ix2 r d) := by
  obtain ⟨-, i1, -⟩ := index_eq t
  blk_ext [iblk, V, i1]

/-- Every point's block of the transposed weights is the transposed weights. -/
theorem block_weights (t : Fin cfg0.N) (d : Fin 8) (h : Fin 64) : iblk m c 2 t (ix2 d h) = V m c main_v3 (ix2 d h) := by
  obtain ⟨-, -, i2, -⟩ := index_eq t
  blk_ext [iblk, V, i2]

/-- Every point's block of the bias is the bias. -/
theorem block_bias (t : Fin cfg0.N) (h : Fin 64) : iblk m c 3 t (ix2 0 h) = V m c main_v4 (ix2 0 h) := by
  obtain ⟨-, -, -, i3, -⟩ := index_eq t
  blk_ext [iblk, V, i3]

/-- The first 22 rows of the padded table are the table's. -/
theorem table_at (t : Fin 22) (d : Fin 8) :
    V m c main_v2 (ix2 (t.castLE (by decide)) d) = table m c (ix2 t d) := by
  rw [entry_table]
  exact scatter_apply _ _ (fun _ => rfl) _ t d

/-- The region's third array at `(d, h)` is the weights at `(h, d)`. -/
theorem weights_at (d : Fin 8) (h : Fin 64) : V m c main_v3 (ix2 d h) = weights m c (ix2 h d) := by
  rw [entry_weights]
  pointwise

/-- The region's fourth array at column `h` is entry `h` of the bias. -/
theorem bias_at (h : Fin 64) : V m c main_v4 (ix2 0 h) = bias m c (ix1 h) := by
  rw [entry_bias]
  pointwise

/-- A token below 22 is the number of the row it names. -/
theorem row_word (w : BitVec 32) (hw : w.toNat < 22) :
    w = BitVec.ofNat 32 ((row w).castLE (by decide : 22 ≤ 32)).val := by
  apply BitVec.eq_of_toNat_eq
  show w.toNat = (min w.toNat 21) % 2 ^ 32
  omega

/-- What point `t` leaves at row `r`, lane `l`, entry `h` of its block is the result's row `256 t + r`, lane `l`, entry `h`. -/
theorem block_out (hsrc : ∀ i, (src m c i).toNat < 22) (t : Fin cfg0.N) (r : Fin 256) (l : Fin 128) (h : Fin 64)
    (hr : (grid0.coords t 0).val * 256 + r.val < 6400) :
    outsAt0 m c t (ix3 r l h) = rows m c (ix3 ⟨(grid0.coords t 0).val * 256 + r.val, hr⟩ l h) := by
  have hw := (block_src m c t r l hr).trans (congrFun (entry_src m c) _)
  unfold outsAt0
  refine (out_apply c _ _ _ _ _ _ _ _ _ _ _ _ _ _ _ _ _ r l h _ (hw.trans (row_word _ (hsrc _)))).trans ?_
  exact congrArg₂ (· + ·) (Finset.sum_congr rfl fun d _ => congrArg₂ (· * ·)
    ((block_table m c t _ d).trans (table_at m c _ d)) ((block_weights m c t d h).trans (weights_at m c d h)))
    ((block_bias m c t h).trans (bias_at m c h))

/-- With every token below 22, the region leaves its output array at `rows`. -/
theorem arr_eq (hsrc : ∀ i, (src m c i).toNat < 22) : (dats m 0 c).arrAt 4 cfg0.N = rows m c := by
  refine (dats m 0 c).arrAt_eq_of_covers 4 _ (by decide +kernel) fun t hf y => ?_
  obtain ⟨-, -, -, -, i4⟩ := index_eq t
  blk_simp [i4]
  rw [after0_4]
  have hr : (grid0.coords t 0).val * 256 + (y 0).val < 6400 := by
    have h0 : (y 0).val < 256 := (y 0).isLt
    have h1 : (grid0.coords t 0).val < 25 := (grid0.coords t 0).isLt
    omega
  have hy : y = ix3 (y 0) (y 1) (y 2) := by funext a; fin_cases a <;> rfl
  have he : (win0_4.blk t).view.emb y = (ix3 ⟨(grid0.coords t 0).val * 256 + (y 0).val, hr⟩ (y 1) (y 2) : S6400x128x64.Idx) := by
    funext a
    apply Fin.ext
    refine (Pipeline.Window.rect_emb_val win0_4 t y a).trans ?_
    rw [i4]
    match a with
    | ⟨0, _⟩ => rfl
    | ⟨1, _⟩ => exact (congrArg (· + (y 1).val) (Nat.zero_mul 128)).trans (Nat.zero_add _)
    | ⟨2, _⟩ => exact (congrArg (· + (y 2).val) (Nat.zero_mul 64)).trans (Nat.zero_add _)
  exact (congrArg _ hy).trans ((block_out m c hsrc t _ _ _ hr).trans (congrArg _ he.symm))

end Cert.KernelIdeal.Emb

end
-- ==== Proof.Result.lean ====
/-
  THE KERNEL'S RESULT. The line after the region lays its 6400 rows of 128 tokens out as 4096 rows of 200 again. Both layouts
  have a token at the same place in row-major order, so element `(b, s, h)` is entry `h` of the result of token `(b, s)`.
-/
module

public import proofs.«01_k».proof.Proof.Array

@[expose] public section

set_option maxRecDepth 16384

noncomputable section

namespace Cert.KernelIdeal.Emb

open Cert.KernelIdeal Cert.KernelIdeal.Gen Idealize.ShloMosaic Idealize.ShloMosaic.TcCoe Idealize.SL.Sem
open Idealize.ShloMosaic.Pointwise
open Idealize.ShloMosaic.Pipeline (Dat)

variable (m : (ℓ : Loc nD τ sig) → Buf (Elt Ideal) ℓ) (c : Dev nD)

/-- The embedding with its up-projection: entry `h` of the result of token `(b, s)`. -/
def emb (i : S4096x200x64.Idx) : EReal := outRow m c (src m c (ix2 (i 0) (i 1))) (i 2)

/-- Token `(b, s)` is at row `(200 b + s) / 128`, lane `(200 b + s) % 128` of the region's layout, in the tokens and in the
    result alike. -/
theorem reshape_rows_apply (b : Fin 4096) (s : Fin 200) (h : Fin 64) :
    shapeCast S4096x200x64 (rows m c) shapeCasts_S6400x128x64_S4096x200x64 (ix3 b s h) = emb m c (ix3 b s h) := by
  have hb : b.val < 4096 := b.isLt
  have hs : s.val < 200 := s.isLt
  have hh : h.val < 64 := h.isLt
  rw [shapeCast_apply (rows m c) shapeCasts_S6400x128x64_S4096x200x64 _
    (ix3 ⟨(b.val * 200 + s.val) / 128, by omega⟩ ⟨(b.val * 200 + s.val) % 128, by omega⟩ h)
    (by rw [rowMajor_val3 _ 8192 64 rfl rfl, rowMajor_val3 _ 12800 64 rfl rfl]
        show (b.val * 200 + s.val) / 128 * 8192 + (b.val * 200 + s.val) % 128 * 64 + h.val = b.val * 12800 + s.val * 64 + h.val
        omega)]
  unfold rows emb
  congr 1
  exact shapeCast_apply (src m c) shapeCasts_S4096x200_S6400x128 _ (ix2 b s)
    (by rw [rowMajor_val2 _ 200 rfl, rowMajor_val2 _ 128 rfl]
        show b.val * 200 + s.val = (b.val * 200 + s.val) / 128 * 128 + (b.val * 200 + s.val) % 128
        omega)

/-- The region's array, laid out as 4096 rows of 200 tokens, is `emb`. -/
theorem reshape_rows : shapeCast S4096x200x64 (rows m c) shapeCasts_S6400x128x64_S4096x200x64 = emb m c := by
  funext i
  have hi : i = ix3 (i 0) (i 1) (i 2) := by funext a; fin_cases a <;> rfl
  rw [hi]
  exact reshape_rows_apply m c _ _ _

/-- With every token below 22, the lines of the kernel leave its result at `emb`. -/
theorem result_eq (hsrc : ∀ i, (src m c i).toNat < 22) :
    Pipeline.afterTail₀ cfgs (dats m) 0 (V0 m) [hostOps1] c main_v7 = emb m c := by
  unfold Pipeline.afterTail₀
  show StableHlo.after hostOps1 _ _ = _
  after_results
  refine (congrArg (fun x => shapeCast S4096x200x64 x shapeCasts_S6400x128x64_S4096x200x64)
    ((Pipeline.withArrays_arr (cfgs 0).spec (by decide) c (V0 m c) _ 4).trans (arr_eq m c hsrc))).trans (reshape_rows m c)

end Cert.KernelIdeal.Emb

end
-- ==== Proof.Reference.lean ====
/-
  THE REFERENCE'S RESULT. The reference takes the table's rows at the tokens — a negative token counts from the table's end, and
  a row outside the table is filled — and then multiplies by the weights and adds the bias. A token below 22 is neither
  negative nor outside, so element `(b, s, h)` is the row of token `(b, s)` times row `h` of the weights, plus entry `h` of
  the bias.
-/
module

public import proofs.«01_k».proof.Proof.Gen.ReferenceIdeal
public import proofs.«01_k».proof.Proof.Gen.ReferenceIdeal.Run
public import proofs.«01_k».proof.Proof.Gen.ReferenceIdeal.Read
public import Idealize.ShloMosaic.Lib.ReduceAll
public import Idealize.ShloMosaic.Lib.Pointwise

@[expose] public section

set_option maxRecDepth 16384

noncomputable section

namespace Cert.ReferenceIdeal.Emb

open Cert.ReferenceIdeal Cert.ReferenceIdeal.Gen Cert.ReferenceIdeal.Read Idealize.ShloMosaic
open Idealize.ShloMosaic.Pointwise

/-- The gather of whole table rows, at `(b, s, d)`: column `d` of the row that the start index of `(b, s)` names, held to the
    table's 22 rows. -/
theorem gather_apply (x : FVec Ideal S22x8 .f32) (ix : IVec S4096x200x1 32) (b : Fin 4096) (s : Fin 200) (d : Fin 8) :
    Host.gather gather_S22x8_S4096x200x1_S4096x200x8_2_0_n_n_0_2_18 x ix (ix3 b s d)
      = x (ix2 ⟨min (ix (ix3 b s 0)).toInt.toNat 21, by omega⟩ d) := by
  let g := gather_S22x8_S4096x200x1_S4096x200x8_2_0_n_n_0_2_18
  have row : g.start (ix3 b s d) ix 0 = min (ix (ix3 b s 0)).toInt.toNat 21 := by
    unfold GatherDims.start
    rw [dif_pos (show (0 : Fin 2) ∈ g.startIndexMap from List.mem_singleton.mpr rfl)]
    have hs : g.siIdx (ix3 b s d) ⟨List.idxOf (0 : Fin 2) g.startIndexMap,
        List.idxOf_lt_length_iff.2 (List.mem_singleton.mpr rfl)⟩ = (ix3 b s 0 : S4096x200x1.Idx) := by
      funext k
      refine Fin.ext ?_
      match k with
      | ⟨0, _⟩ => rfl
      | ⟨1, _⟩ => rfl
      | ⟨2, _⟩ => rfl
    rw [hs]
    rfl
  have col : g.start (ix3 b s d) ix 1 = 0 := by
    unfold GatherDims.start
    rw [dif_neg (show ¬(1 : Fin 2) ∈ g.startIndexMap by decide)]
  have off : g.offCoord (ix3 b s d) 0 = 0 :=
    GatherDims.offCoord_eq_zero _ _ _ fun h => ((GatherDims.mem_sKept _ _).mp h).1 (List.mem_singleton.mpr rfl)
  unfold Host.gather
  congr 1
  funext a
  refine Fin.ext ?_
  show g.start (ix3 b s d) ix a + g.batchCoord (ix3 b s d) a + g.offCoord (ix3 b s d) a = _
  rw [GatherDims.batchCoord_eq_zero _ _ _ List.not_mem_nil]
  match a with
  | ⟨0, _⟩ => exact congrArg₂ (fun p q => p + 0 + q) row off
  | ⟨1, _⟩ => exact (congrArg (fun p => p + 0 + g.offCoord (ix3 b s d) 1) col).trans ((Nat.zero_add _).trans rfl)

section Tokens

variable (x0 : IVec S4096x200 32) (hx : ∀ i, (x0 i).toNat < 22)
include hx

/-- A token below 22 is not negative, is at most 21, and reads the same with and without a sign. -/
theorem token_facts (i : S4096x200.Idx) : IntOp.cmpi .slt (x0 i) 0#32 = 0#1 ∧ IntOp.cmpi .sge (x0 i) 0#32 = 1#1
    ∧ IntOp.cmpi .sle (x0 i) 21#32 = 1#1 ∧ (x0 i).toInt.toNat = (x0 i).toNat := by
  have h := hx i
  generalize x0 i = w at h ⊢
  have e : w = BitVec.ofNat 32 (⟨w.toNat, h⟩ : Fin 22).val := by
    apply BitVec.eq_of_toNat_eq
    show w.toNat = w.toNat % 2 ^ 32
    omega
  rw [e]
  exact (by decide : ∀ t : Fin 22, IntOp.cmpi .slt (BitVec.ofNat 32 t.val) 0#32 = 0#1 ∧ IntOp.cmpi .sge (BitVec.ofNat 32 t.val) 0#32 = 1#1
    ∧ IntOp.cmpi .sle (BitVec.ofNat 32 t.val) 21#32 = 1#1 ∧ (BitVec.ofNat 32 t.val).toInt.toNat = (BitVec.ofNat 32 t.val).toNat) _

/-- The start indices are the tokens themselves: none is negative, so none is counted from the table's end. -/
theorem index_apply (i : S4096x200x1.Idx) : val_main_call0_v5 (F := Ideal) x0 i = x0 (idx_main_call0_v5 i) := by
  rw [val_main_call0_v5_apply, val_main_call0_v4_apply, val_main_call0_v1_apply, val_main_call0_v0_apply, val_main_call0_c_apply,
    (token_facts x0 hx _).1]
  rfl

/-- Every token names a row of the table, so no row is filled. -/
theorem mask_apply (i : S4096x200.Idx) : val_main_call0_v12 (F := Ideal) x0 i = 1#1 := by
  refine Host.reduce_andi_one _ _ _ _ _ rfl fun j => ?_
  rw [val_main_call0_v11_apply, val_main_call0_v7_apply, val_main_call0_v10_apply, index_apply x0 hx, val_main_call0_v6_apply,
    val_main_call0_c_2_apply, val_main_call0_v9_apply, val_main_call0_v8_apply, val_main_call0_c_1_apply,
    (token_facts x0 hx _).2.1, (token_facts x0 hx _).2.2.1]
  rfl

/-- The rows taken, at `(b, s, d)`: column `d` of the table's row of token `(b, s)`. -/
theorem taken_apply (x1 : FVec Ideal S22x8 .f32) (b : Fin 4096) (s : Fin 200) (d : Fin 8) :
    val_main_v0 (F := Ideal) x0 x1 (ix3 b s d) = x1 (ix2 ⟨min (x0 (ix2 b s)).toNat 21, by omega⟩ d) := by
  rw [val_main_v0_apply, val_main_call0_v14_apply, mask_apply x0 hx]
  refine (gather_apply x1 _ b s d).trans (congrArg x1 (congrArg (fun k => ix2 k d) (Fin.ext ?_)))
  show min (val_main_call0_v5 (F := Ideal) x0 (ix3 b s 0)).toInt.toNat 21 = min (x0 (ix2 b s)).toNat 21
  rw [index_apply x0 hx, (token_facts x0 hx _).2.2.2]
  refine congrArg (fun i => min (x0 i).toNat 21) ?_
  funext k; match k with | ⟨0, _⟩ => rfl | ⟨1, _⟩ => rfl

/-- The reference's result at `(b, s, h)`: the table's row of token `(b, s)` times row `h` of the weights, plus entry `h` of the
    bias. -/
theorem result_apply (x1 : FVec Ideal S22x8 .f32) (x2 : FVec Ideal S64x8 .f32) (x3 : FVec Ideal S64 .f32)
    (b : Fin 4096) (s : Fin 200) (h : Fin 64) :
    val_main_v4 (F := Ideal) x0 x1 x2 x3 (ix3 b s h)
      = (∑ d : Fin 8, x1 (ix2 ⟨min (x0 (ix2 b s)).toNat 21, by omega⟩ d) * x2 (ix2 h d)) + x3 (ix1 h) := by
  rw [val_main_v4_apply, val_main_v1_apply, val_main_v3_apply, val_main_v2_apply]
  refine congrArg₂ (· + ·) (Finset.sum_congr rfl fun d _ => congrArg₂ (· * ·) ?_ ?_) ?_
  · refine Eq.trans (congrArg _ ?_) (taken_apply x0 hx x1 b s d)
    funext k; match k with | ⟨0, _⟩ => rfl | ⟨1, _⟩ => rfl | ⟨2, _⟩ => rfl
  · refine congrArg x2 ?_
    funext k; match k with | ⟨0, _⟩ => rfl | ⟨1, _⟩ => rfl
  · refine congrArg x3 ?_
    funext k; match k with | ⟨0, _⟩ => rfl

end Tokens

end Cert.ReferenceIdeal.Emb

end
-- ==== Proof.lean ====
/-
  THE CERTIFICATE. The frames are the generated ones; the value claim says that the kernel's result and the reference's
  are both `Emb.emb`, the sum over the eight features of a token's table row times the weights, plus the bias.
-/
module

public import proofs.«01_k».proof.Defs
public import proofs.«01_k».proof.Proof.Gen.Kernel
public import proofs.«01_k».proof.Proof.Gen.Kernel.Frame
public import proofs.«01_k».proof.Proof.Result
public import proofs.«01_k».proof.Proof.Reference
public import Idealize.ShloMosaic.Lib.Quiescent
public import Idealize.ShloMosaic.Adequacy
public import Idealize.ShloMosaic.Init

@[expose] public section

set_option maxRecDepth 16384

noncomputable section

namespace Cert.Proof

open Idealize.ShloMosaic Idealize.ShloMosaic.TcCoe Idealize.SL.Sem
open Idealize.ShloMosaic.Pointwise

/-- The side conditions of the precondition's operations. -/
theorem pre_facts : Cert.Pre_tokens_in_table.Facts := ⟨by decide⟩

/-- A word that the precondition's two comparisons accept is a number below 22. -/
theorem word_lt (w : BitVec 32) (h : IntOp.andi (IntOp.cmpi .sge w 0#32) (IntOp.cmpi .slt w 22#32) = 1#1) : w.toNat < 22 := by
  have hb : ∀ p q : Bool, IntOp.andi (BitVec.ofBool p) (BitVec.ofBool q) = 1#1 → p = true ∧ q = true := by decide
  obtain ⟨h0, h1⟩ := hb _ _ h
  have h0 : (0 : Int) ≤ w.toInt := by simpa [BitVec.sle] using h0
  have h1 : w.toInt < 22 := by simpa [BitVec.slt] using h1
  have := w.isLt
  rw [BitVec.toInt_eq_toNat_cond] at h0 h1
  split at h0 <;> omega

/-- Under the precondition every token of the kernel's first argument is a number below 22. -/
theorem tokens_lt (m : (ℓ : Loc Cert.KernelIdeal.nD Cert.KernelIdeal.τ Cert.KernelIdeal.sig) → Buf (Elt Ideal) ℓ)
    (hm : Cert.Pre_KernelIdeal_tokens_in_table (hPre_tokens_in_table := pre_facts) m) (c : Dev Cert.KernelIdeal.nD)
    (i : Cert.KernelIdeal.S4096x200.Idx) : (Cert.KernelIdeal.Emb.src m c i).toNat < 22 :=
  word_lt _ (congrFun (hm c) i)

open Cert.KernelIdeal Cert.KernelIdeal.Gen in
/-- The kernel ends with its result at `Emb.emb` of its arguments, and the arguments unchanged. -/
theorem kernel_run (m : (ℓ : Loc nD τ sig) → Buf (Elt Ideal) ℓ) (ρ : Dev nD → PrngReg)
    (hsrc : ∀ c i, (Emb.src m c i).toNat < 22) :
    θ_run (defs (F := Ideal)) (onTc (τ := τ) (main (F := Ideal))) ⟨m, fun _ => 0, ρ⟩ fun r => ∀ c : Dev nD,
      r.2.mem ((c.tc : Thread nD τ).loc main_v7) = Emb.emb m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h.1 c).2 main_v7 (Pipeline.mem_restRefs_of main_v7 (by decide) (by decide))).trans (Emb.result_eq m c (hsrc c)), h.2 c⟩)
    (θ_run_and (run_main m ρ) (unchanged m ρ))

open Cert.ReferenceIdeal in
/-- The reference's frame: its arguments end unchanged and, as it declares no semaphore, every counter is zero. -/
theorem reference_frame (m : (ℓ : Loc nD τ sig) → Buf (Elt Ideal) ℓ) (ρ : Dev nD → PrngReg) :
    θ_run (defs (F := Ideal)) (onTc (τ := τ) (main (F := Ideal))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0 :=
  (θ_run defs _ _).mono (fun r h => ⟨fun c => (h c).2, sem_eq_zero_of_no_sems (by decide) r.2⟩) (Value.run m ρ)

/-- With every token below 22, the reference's value of the kernel's arguments is `Emb.emb`. -/
theorem reference_value (m : (ℓ : Loc Cert.KernelIdeal.nD Cert.KernelIdeal.τ Cert.KernelIdeal.sig) → Buf (Elt Ideal) ℓ)
    (c : Dev Cert.KernelIdeal.nD) (hsrc : ∀ i, (Cert.KernelIdeal.Emb.src m c i).toNat < 22) :
    Cert.ReferenceIdeal.Read.val_main_v4 (F := Ideal) (Cert.KernelIdeal.Emb.src m c) (Cert.KernelIdeal.Emb.table m c)
      (Cert.KernelIdeal.Emb.weights m c) (Cert.KernelIdeal.Emb.bias m c) = Cert.KernelIdeal.Emb.emb m c := by
  funext i
  have hi : i = ix3 (i 0) (i 1) (i 2) := by funext a; fin_cases a <;> rfl
  rw [hi]
  exact Cert.ReferenceIdeal.Emb.result_apply _ hsrc _ _ _ _ _ _

/-- The seven claims, each under the witnesses of the programs' and the precondition's side conditions. -/
theorem claim : Cert.Claim := by
  refine ⟨Cert.Kernel.Gen.facts, Cert.KernelIdeal.Gen.facts, Cert.ReferenceIdeal.Gen.facts, pre_facts,
    fun m g _ => Cert.Kernel.Gen.frame m g, fun m g _ => Cert.KernelIdeal.Gen.frame m g,
    fun m g _ => Cert.KernelIdeal.Gen.frame m g, fun m g _ => reference_frame m g, fun m g _ => reference_frame m g,
    trivial, fun m g m' g' hm ha => ⟨fun c => Cert.KernelIdeal.Emb.emb m c, ?_, ?_⟩⟩
  · exact kernel_run m g (tokens_lt m hm)
  · refine (θ_run Cert.ReferenceIdeal.defs _ _).mono (fun r h c => ⟨?_, (h c).2⟩) (Cert.ReferenceIdeal.Value.run m' g')
    refine ((h c).1.trans (Cert.ReferenceIdeal.Read.val_main_v4_eq (F := Ideal) _ _ _ _)).trans ?_
    obtain ⟨a0, a1, a2, a3⟩ := ha c
    rw [a0, a1, a2, a3]
    exact reference_value m c (tokens_lt m hm c)

end Cert.Proof

end
